-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_the_bins [hPre_in_the_bins : Cert.Pre_in_the_bins.Facts] (m : (ℓ : Loc Cert.KernelIdeal.nD Cert.KernelIdeal.τ Cert.KernelIdeal.sig) → Buf (Elt Ideal) ℓ) : Prop :=
  ∀ c : Dev Cert.KernelIdeal.nD,
    (Cert.Pre_in_the_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_the_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_the_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_the_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_the_bins [hPre_in_the_bins : Cert.Pre_in_the_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_the_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_the_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_the_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_the_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_the_bins [hKernelIdeal : Cert.KernelIdeal.Facts] [hPre_in_the_bins : Cert.Pre_in_the_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_the_bins m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_the_bins [hReferenceIdeal : Cert.ReferenceIdeal.Facts] [hPre_in_the_bins : Cert.Pre_in_the_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_the_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_the_bins [hKernelIdeal : Cert.KernelIdeal.Facts] [hReferenceIdeal : Cert.ReferenceIdeal.Facts] [hPre_in_the_bins : Cert.Pre_in_the_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_the_bins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_the_bins : Cert.Pre_in_the_bins.Facts),
    quiescent_Kernel (hKernel := hKernel)
    ∧ quiescent_KernelIdeal (hKernelIdeal := hKernelIdeal)
    ∧ quiescent_KernelIdeal_pre_in_the_bins (hKernelIdeal := hKernelIdeal) (hPre_in_the_bins := hPre_in_the_bins)
    ∧ quiescent_ReferenceIdeal (hReferenceIdeal := hReferenceIdeal)
    ∧ quiescent_ReferenceIdeal_pre_in_the_bins (hReferenceIdeal := hReferenceIdeal) (hPre_in_the_bins := hPre_in_the_bins)
    ∧ preserves_Kernel_KernelIdeal
    ∧ algebraic_KernelIdeal_ReferenceIdeal_pre_in_the_bins (hKernelIdeal := hKernelIdeal) (hReferenceIdeal := hReferenceIdeal) (hPre_in_the_bins := hPre_in_the_bins)
-- ==== Pre_in_the_bins.lean ====
abbrev S4096x8192 : Shape := ⟨2, ![4096, 8192]⟩
abbrev S32 : Shape := ⟨1, ![32]⟩
abbrev S33 : Shape := ⟨1, ![33]⟩
abbrev S1 : Shape := ⟨1, ![1]⟩
abbrev S_ : Shape := ⟨0, ![]⟩

class Facts : Prop where
  slices_S32_S1_0 : S32.Slices ![0] S1
  shapeCasts_S1_S_ : S1.ShapeCasts S_
  slices_S32_S1_1 : S32.Slices ![1] S1
  slices_S33_S1_0 : S33.Slices ![0] S1
  slices_S33_S1_32 : S33.Slices ![32] S1
  bcast_S_S32 : S_.BroadcastsInDim S32 (![] : Fin 0 → Fin S32.rank)
  bcast_S_S33 : S_.BroadcastsInDim S33 (![] : Fin 0 → Fin S33.rank)
  bcast_S_S4096x8192 : S_.BroadcastsInDim S4096x8192 (![] : Fin 0 → Fin S4096x8192.rank)
  slices_S32_S1_31 : S32.Slices ![31] S1

variable [Facts]

def fn_part2 {F : FTy → Type} [FloatOps F] (main_arg0 : FVec F S4096x8192 .f32) (main_v8 : FVec F S_ .f32) (main_v14 : FVec F S_ .f32) (main_v28 : IVec S32 1) (main_v35 : IVec S33 1) (main_v44 : IVec S4096x8192 1) : IVec S32 1 × IVec S33 1 × IVec S4096x8192 1 × IVec S4096x8192 1 :=
  let main_v45 : FVec F S4096x8192 .f32 := Host.absf main_arg0
  let main_cst_2 : FVec F S_ .f32 := constant S_ .f32 0x7F800000#32
  let main_v46 : FVec F S4096x8192 .f32 := broadcastInDim S4096x8192 ![] bcast_S_S4096x8192 main_cst_2
  let main_v47 : IVec S4096x8192 1 := cmpf .olt main_v45 main_v46
  let main_v48 : FVec F S_ .f32 := mulf main_v8 main_v14
  let main_cst_3 : FVec F S_ .f32 := constant S_ .f32 0x00000000#32
  let main_v49 : IVec S_ 1 := cmpf .oge main_v48 main_cst_3
  let main_v50 : IVec S4096x8192 1 := broadcastInDim S4096x8192 ![] bcast_S_S4096x8192 main_v49
  let main_v51 : IVec S4096x8192 1 := ori main_v47 main_v50
  (main_v28, main_v35, main_v44, main_v51)

def fn_part1 {F : FTy → Type} [FloatOps F] (main_arg0 : FVec F S4096x8192 .f32) (main_arg1 : FVec F S4096x8192 .f32) (main_arg2 : FVec F S32 .f32) (main_arg3 : FVec F S33 .f32) (main_v1 : FVec F S_ .f32) (main_v6 : FVec F S_ .f32) (main_v8 : FVec F S_ .f32) (main_v14 : FVec F S_ .f32) (main_v20 : IVec S32 1) : IVec S32 1 × IVec S33 1 × IVec S4096x8192 1 × IVec S4096x8192 1 :=
  let main_v21 : IVec S32 32 := iotaInDim S32 32 0
  let main_v22 : FVec F S32 .f32 := sitofp .f32 main_v21
  let main_v23 : FVec F S32 .f32 := broadcastInDim S32 ![] bcast_S_S32 main_v6
  let main_v24 : FVec F S32 .f32 := mulf main_v23 main_v22
  let main_v25 : FVec F S32 .f32 := broadcastInDim S32 ![] bcast_S_S32 main_v1
  let main_v26 : FVec F S32 .f32 := addf main_v25 main_v24
  let main_v27 : IVec S32 1 := cmpf .oeq main_arg2 main_v26
  let main_v28 : IVec S32 1 := andi main_v20 main_v27
  let main_v29 : IVec S33 32 := iotaInDim S33 32 0
  let main_v30 : FVec F S33 .f32 := sitofp .f32 main_v29
  let main_v31 : FVec F S33 .f32 := broadcastInDim S33 ![] bcast_S_S33 main_v14
  let main_v32 : FVec F S33 .f32 := mulf main_v31 main_v30
  let main_v33 : FVec F S33 .f32 := broadcastInDim S33 ![] bcast_S_S33 main_v8
  let main_v34 : FVec F S33 .f32 := addf main_v33 main_v32
  let main_v35 : IVec S33 1 := cmpf .oeq main_arg3 main_v34
  let main_v36 : FVec F S_ .f32 := subf main_v1 main_v6
  let main_v37 : FVec F S4096x8192 .f32 := broadcastInDim S4096x8192 ![] bcast_S_S4096x8192 main_v36
  let main_v38 : IVec S4096x8192 1 := cmpf .ole main_v37 main_arg1
  let main_v39 : FVec F S1 .f32 := (extractStridedSlice S1 ![31] · slices_S32_S1_31) main_arg2
  let main_v40 : FVec F S_ .f32 := shapeCast S_ main_v39 shapeCasts_S1_S_
  let main_v41 : FVec F S_ .f32 := addf main_v40 main_v6
  let main_v42 : FVec F S4096x8192 .f32 := broadcastInDim S4096x8192 ![] bcast_S_S4096x8192 main_v41
  let main_v43 : IVec S4096x8192 1 := cmpf .olt main_arg1 main_v42
  let main_v44 : IVec S4096x8192 1 := andi main_v38 main_v43
  fn_part2 (F := F) main_arg0 main_v8 main_v14 main_v28 main_v35 main_v44

def fn {F : FTy → Type} [FloatOps F] (main_arg0 : FVec F S4096x8192 .f32) (main_arg1 : FVec F S4096x8192 .f32) (main_arg2 : FVec F S32 .f32) (main_arg3 : FVec F S33 .f32) : IVec S32 1 × IVec S33 1 × IVec S4096x8192 1 × IVec S4096x8192 1 :=
  let main_v0 : FVec F S1 .f32 := (extractStridedSlice S1 ![0] · slices_S32_S1_0) main_arg2
  let main_v1 : FVec F S_ .f32 := shapeCast S_ main_v0 shapeCasts_S1_S_
  let main_v2 : FVec F S1 .f32 := (extractStridedSlice S1 ![1] · slices_S32_S1_1) main_arg2
  let main_v3 : FVec F S_ .f32 := shapeCast S_ main_v2 shapeCasts_S1_S_
  let main_v4 : FVec F S1 .f32 := (extractStridedSlice S1 ![0] · slices_S32_S1_0) main_arg2
  let main_v5 : FVec F S_ .f32 := shapeCast S_ main_v4 shapeCasts_S1_S_
  let main_v6 : FVec F S_ .f32 := subf main_v3 main_v5
  let main_v7 : FVec F S1 .f32 := (extractStridedSlice S1 ![0] · slices_S33_S1_0) main_arg3
  let main_v8 : FVec F S_ .f32 := shapeCast S_ main_v7 shapeCasts_S1_S_
  let main_v9 : FVec F S1 .f32 := (extractStridedSlice S1 ![32] · slices_S33_S1_32) main_arg3
  let main_v10 : FVec F S_ .f32 := shapeCast S_ main_v9 shapeCasts_S1_S_
  let main_v11 : FVec F S1 .f32 := (extractStridedSlice S1 ![0] · slices_S33_S1_0) main_arg3
  let main_v12 : FVec F S_ .f32 := shapeCast S_ main_v11 shapeCasts_S1_S_
  let main_v13 : FVec F S_ .f32 := subf main_v10 main_v12
  let main_cst : FVec F S_ .f32 := constant S_ .f32 0x42000000#32
  let main_v14 : FVec F S_ .f32 := Host.divf main_v13 main_cst
  let main_v15 : FVec F S32 .f32 := Host.absf main_arg2
  let main_cst_0 : FVec F S_ .f32 := constant S_ .f32 0x7F800000#32
  let main_v16 : FVec F S32 .f32 := broadcastInDim S32 ![] bcast_S_S32 main_cst_0
  let main_v17 : IVec S32 1 := cmpf .olt main_v15 main_v16
  let main_cst_1 : FVec F S_ .f32 := constant S_ .f32 0x00000000#32
  let main_v18 : IVec S_ 1 := cmpf .ogt main_v6 main_cst_1
  let main_v19 : IVec S32 1 := broadcastInDim S32 ![] bcast_S_S32 main_v18
  let main_v20 : IVec S32 1 := andi main_v17 main_v19
  fn_part1 (F := F) main_arg0 main_arg1 main_arg2 main_arg3 main_v1 main_v6 main_v8 main_v14 main_v20
-- ==== Kernel.lean ====
abbrev S4096x8192 : Shape := ⟨2, ![4096, 8192]⟩
abbrev S32 : Shape := ⟨1, ![32]⟩
abbrev S33 : Shape := ⟨1, ![33]⟩
abbrev S1 : Shape := ⟨1, ![1]⟩
abbrev S_ : Shape := ⟨0, ![]⟩
abbrev S5 : Shape := ⟨1, ![5]⟩
abbrev S1x5 : Shape := ⟨2, ![1, 5]⟩
abbrev S1x1 : Shape := ⟨2, ![1, 1]⟩
abbrev S128x8192 : Shape := ⟨2, ![128, 8192]⟩
abbrev S1x128x8192 : Shape := ⟨3, ![1, 128, 8192]⟩
abbrev S1x1x1 : Shape := ⟨3, ![1, 1, 1]⟩

abbrev nBuf : Space → Nat
  | .hbm => 35
  | .vmem => 6
  | .smem => 2
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S32, .f32⟩
  | .hbm, ⟨3, _⟩ => ⟨S33, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S1, .f32⟩
  | .hbm, ⟨29, _⟩ => ⟨S1, .f32⟩
  | .hbm, ⟨30, _⟩ => ⟨S1, .f32⟩
  | .hbm, ⟨31, _⟩ => ⟨S5, .f32⟩
  | .hbm, ⟨32, _⟩ => ⟨S1x5, .f32⟩
  | .hbm, ⟨33, _⟩ => ⟨S1x1, .f32⟩
  | .hbm, ⟨34, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .smem, ⟨0, _⟩ => ⟨S1x5, .f32⟩
  | .local _ .smem, ⟨1, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v25 : BitVec 1 := Scalar.cmpi .eq arg0 c31_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x8192 : Shape := ⟨2, ![4096, 8192]⟩
abbrev S32 : Shape := ⟨1, ![32]⟩
abbrev S33 : Shape := ⟨1, ![33]⟩
abbrev S4096x8192x1 : Shape := ⟨3, ![4096, 8192, 1]⟩
abbrev S1x1x32 : Shape := ⟨3, ![1, 1, 32]⟩
abbrev S4096x8192x32 : Shape := ⟨3, ![4096, 8192, 32]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S32, .f32⟩
  | .hbm, ⟨3, _⟩ => ⟨S33, .f32⟩
  | .hbm, ⟨4, _⟩ => ⟨S4096x8192x1, .f32⟩
  | .hbm, ⟨5, _⟩ => ⟨S1x1x32, .f32⟩
  | .hbm, ⟨6, _⟩ => ⟨S4096x8192x32, .f32⟩
  | .hbm, ⟨7, _⟩ => ⟨S4096x8192x32, .f32⟩
  | .hbm, ⟨8, _⟩ => ⟨S4096x8192x32, .i1⟩
  | .hbm, ⟨9, _⟩ => ⟨S4096x8192x32, .i32⟩
  | .hbm, ⟨10, _⟩ => ⟨S_, .i32⟩
  | .hbm, ⟨11, _⟩ => ⟨S4096x8192, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4096x8192, .i32⟩
  | .hbm, ⟨16, _⟩ => ⟨S4096x8192, .i32⟩
  | .hbm, ⟨17, _⟩ => ⟨S_, .i32⟩
  | .hbm, ⟨18, _⟩ => ⟨S4096x8192, .i32⟩
  | .hbm, ⟨19, _⟩ => ⟨S4096x8192, .i32⟩
  | .hbm, ⟨20, _⟩ => ⟨S4096x8192, .f32⟩
  | .hbm, ⟨21, _⟩ => ⟨S4096x8192, .f32⟩
  | .hbm, ⟨22, _⟩ => ⟨S_, .i32⟩
  | .hbm, ⟨23, _⟩ => ⟨S4096x8192, .i32⟩
  | .hbm, ⟨24, _⟩ => ⟨S4096x8192, .i1⟩
  | .hbm, ⟨25, _⟩ => ⟨S_, .i32⟩
  | .hbm, ⟨26, _⟩ => ⟨S4096x8192, .i32⟩
  | .hbm, ⟨27, _⟩ => ⟨S4096x8192, .i32⟩
  | .hbm, ⟨28, _⟩ => ⟨S4096x8192, .i32⟩
  | .hbm, ⟨29, _⟩ => ⟨S4096x8192x1, .i32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Proof.Acc.lean ====
/-
  What the kernel computes: the two accumulators point by point, the scalars that the program prepares, and the run.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The reset stores zero in the first accumulator. -/
theorem pay1_at (j : S128x8192.Idx) : k0_pay1 (F := Ideal) j = 0 := by pointwise [k0_pay1]

/-- The reset stores zero in the second accumulator. -/
theorem pay2_at (j : S128x8192.Idx) : k0_pay2 (F := Ideal) j = 0 := by pointwise [k0_pay2]

/-- The first accumulator gains the squared difference. -/
theorem pay4_at (t p acc : FVec Ideal S128x8192 .f32) (j : S128x8192.Idx) :
    k0_pay4 t p acc j = acc j + (p j - t j) * (p j - t j) := by pointwise [k0_pay4, k0_pay3]

/-- The second accumulator gains the squared difference times the floor of the scaled target. -/
theorem pay5_at (t p acc : FVec Ideal S128x8192 .f32) (a b : EReal) (j : S128x8192.Idx) :
    k0_pay5 t p a b acc j = acc j + (p j - t j) * (p j - t j) * Ideal.liftRound Int.floor (t j * a + b) := by
  pointwise [k0_pay5, k0_pay3]

/-- The last point combines the sums of the two accumulators. -/
theorem pay6_eq (c0 c1 : EReal) (x y : FVec Ideal S128x8192 .f32) :
    k0_pay6 (F := Ideal) c0 c1 x y
      = (c0 * (∑ r : Fin 128, ∑ l : Fin 8192, x (ix2 r l)) + c1 * (∑ r : Fin 128, ∑ l : Fin 8192, y (ix2 r l)))
        * Ideal.ofBits .f32 0x33000000#32 := by
  unfold k0_pay6
  pointwise

/-- The predictions' block at a point. -/
abbrev pblk (c : Dev nD) (t : Fin cfg0.N) : FVec Ideal S128x8192 .f32 := iblk m c 1 t
/-- The targets' block at a point. -/
abbrev tblk (c : Dev nD) (t : Fin cfg0.N) : FVec Ideal S128x8192 .f32 := iblk m c 2 t
/-- The scalars at a point. -/
abbrev sblk (c : Dev nD) (t : Fin cfg0.N) : FVec Ideal S1x5 .f32 := iblk m c 0 t

/-- The first accumulator after a point that opens a run. -/
theorem acc0_A (c : Dev nD) (t : Fin cfg0.N) (h0 : t.val % 32 = 0) :
    (outsAt0 m c t.val t.isLt).2.1 = k0_pay4 (F := Ideal) (tblk m c t) (pblk m c t) (k0_pay1 (F := Ideal)) := by
  rw [outsAt0_A m c t h0 (by omega)]
  frame_out

/-- The second accumulator after a point that opens a run. -/
theorem acc1_A (c : Dev nD) (t : Fin cfg0.N) (h0 : t.val % 32 = 0) :
    (outsAt0 m c t.val t.isLt).2.2
      = k0_pay5 (F := Ideal) (tblk m c t) (pblk m c t) (sblk m c t (ix2 0 0)) (sblk m c t (ix2 0 1)) (k0_pay2 (F := Ideal)) := by
  rw [outsAt0_A m c t h0 (by omega)]
  frame_out
  rfl

/-- The first accumulator after any other point, from what the point before it left. -/
theorem acc0_step (c : Dev nD) (t : Fin cfg0.N) (h0 : ¬ t.val % 32 = 0) :
    (outsAt0 m c t.val t.isLt).2.1 = k0_pay4 (tblk m c t) (pblk m c t)
      (outsAt0 m c (t.val - 1) (Nat.lt_of_le_of_lt (Nat.sub_le _ _) t.isLt)).2.1 := by
  by_cases h1 : t.val % 32 = 31
  · rw [outsAt0_C m c t h0 h1]; frame_out; simp only [read_unread_whole]
  · rw [outsAt0_B m c t h0 h1]; frame_out; simp only [read_unread_whole]

/-- The second accumulator after any other point, from what the point before it left. -/
theorem acc1_step (c : Dev nD) (t : Fin cfg0.N) (h0 : ¬ t.val % 32 = 0) :
    (outsAt0 m c t.val t.isLt).2.2
      = k0_pay5 (tblk m c t) (pblk m c t) (sblk m c t (ix2 0 0)) (sblk m c t (ix2 0 1))
          (outsAt0 m c (t.val - 1) (Nat.lt_of_le_of_lt (Nat.sub_le _ _) t.isLt)).2.2 := by
  by_cases h1 : t.val % 32 = 31
  · rw [outsAt0_C m c t h0 h1]; frame_out; simp only [read_unread_whole]; rfl
  · rw [outsAt0_B m c t h0 h1]; frame_out; simp only [read_unread_whole]; rfl

/-- What the last point stores, from the two accumulators it leaves. -/
theorem out_C (c : Dev nD) (t : Fin cfg0.N) (h1 : t.val % 32 = 31) :
    (outsAt0 m c t.val t.isLt).1 = fun _ => k0_pay6 (F := Ideal) (sblk m c t (ix2 0 2)) (sblk m c t (ix2 0 3))
      (outsAt0 m c t.val t.isLt).2.1 (outsAt0 m c t.val t.isLt).2.2 := by
  rw [outsAt0_C m c t (by omega) h1]
  frame_out
  rfl

/-- One block's term of the first accumulator. -/
def term0 (c : Dev nD) (t : Fin cfg0.N) (j : S128x8192.Idx) : EReal :=
  (pblk m c t j - tblk m c t j) * (pblk m c t j - tblk m c t j)

/-- One block's term of the second accumulator. -/
def term1 (c : Dev nD) (t : Fin cfg0.N) (j : S128x8192.Idx) : EReal :=
  (pblk m c t j - tblk m c t j) * (pblk m c t j - tblk m c t j)
    * Ideal.liftRound Int.floor (tblk m c t j * sblk m c t (ix2 0 0) + sblk m c t (ix2 0 1))

/-- After the last point the first accumulator is the sum of all blocks' terms. -/
theorem acc0_last (c : Dev nD) (t : Fin cfg0.N) (ht : t.val + 1 = cfg0.N) (j : S128x8192.Idx) :
    (outsAt0 m c t.val t.isLt).2.1 j = ∑ p : Fin cfg0.N, term0 m c p j := by
  have h := Pipeline.eq_sum_fin_of_reset_step_apply_last (M := EReal) (fun n h => (outsAt0 m c n h).2.1) 32 (fun _ => 0)
    (term0 m c) (fun t h j => by rw [acc0_A m c t h, pay4_at, pay1_at]; rfl)
    (fun t h j => by rw [acc0_step m c t h, pay4_at]; rfl) (le_of_eq N_0) t ht j
  simpa using h

/-- After the last point the second accumulator is the sum of all blocks' terms. -/
theorem acc1_last (c : Dev nD) (t : Fin cfg0.N) (ht : t.val + 1 = cfg0.N) (j : S128x8192.Idx) :
    (outsAt0 m c t.val t.isLt).2.2 j = ∑ p : Fin cfg0.N, term1 m c p j := by
  have h := Pipeline.eq_sum_fin_of_reset_step_apply_last (M := EReal) (fun n h => (outsAt0 m c n h).2.2) 32 (fun _ => 0)
    (term1 m c) (fun t h j => by rw [acc1_A m c t h, pay5_at, pay2_at]; rfl)
    (fun t h j => by rw [acc1_step m c t h, pay5_at]; rfl) (le_of_eq N_0) t ht j
  simpa using h

/-- The windows' block indices at each point. -/
theorem idx : ∀ t : Fin cfg0.N, win0_0.index t = ![0, 0] ∧ win0_1.index t = ![t.val, 0] ∧ win0_2.index t = ![t.val, 0] :=
  (by decide +kernel : ∀ t : Fin grid0.N, _)

/-- A prediction in a block, in the whole array. -/
theorem pblk_at (c : Dev nD) (t : Fin cfg0.N) (r : Fin 128) (l : Fin 8192) (h : t.val * 128 + r.val < 4096) :
    pblk m c t (ix2 r l) = (m ((c : Thread nD τ).loc main_arg0) : FVec Ideal S4096x8192 .f32) (ix2 ⟨t.val * 128 + r.val, h⟩ l) := by
  blk_ext [iblk, V, idx t]

/-- A target in a block, in the whole array. -/
theorem tblk_at (c : Dev nD) (t : Fin cfg0.N) (r : Fin 128) (l : Fin 8192) (h : t.val * 128 + r.val < 4096) :
    tblk m c t (ix2 r l) = (m ((c : Thread nD τ).loc main_arg1) : FVec Ideal S4096x8192 .f32) (ix2 ⟨t.val * 128 + r.val, h⟩ l) := by
  blk_ext [iblk, V, idx t]

/-- The bins, as the program is given them. -/
abbrev bins (c : Dev nD) : FVec Ideal S32 .f32 := m ((c : Thread nD τ).loc main_arg2)
/-- The weights, as the program is given them. -/
abbrev wts (c : Dev nD) : FVec Ideal S33 .f32 := m ((c : Thread nD τ).loc main_arg3)

/-- The scalars at a point are the array that the program prepares. -/
theorem sblk_at (c : Dev nD) (t : Fin cfg0.N) (k : Fin 5) :
    sblk m c t (ix2 0 k) = (V m c main_v24 : FVec Ideal S1x5 .f32) (ix2 0 k) := by
  blk_ext [iblk, idx t]

/-- The first scalar is one over the bins' spacing. -/
theorem scal_0 (c : Dev nD) :
    (V m c main_v24 : FVec Ideal S1x5 .f32) (ix2 0 0) = Ideal.div 1 (bins m c (ix1 1) - bins m c (ix1 0)) := by
  show StableHlo.after hostOps0 (fun b => m (c, b)) (Proc.tc.devRef main_v24) (ix2 0 0) = _
  after_reads_at
  after_reads_at

/-- The second scalar is one minus the first bin over the spacing. -/
theorem scal_1 (c : Dev nD) :
    (V m c main_v24 : FVec Ideal S1x5 .f32) (ix2 0 1) = 1 - bins m c (ix1 0) * Ideal.div 1 (bins m c (ix1 1) - bins m c (ix1 0)) := by
  show StableHlo.after hostOps0 (fun b => m (c, b)) (Proc.tc.devRef main_v24) (ix2 0 1) = _
  after_reads_at
  after_reads_at

/-- The third scalar is the first weight. -/
theorem scal_2 (c : Dev nD) :
    (V m c main_v24 : FVec Ideal S1x5 .f32) (ix2 0 2) = wts m c (ix1 0) := by
  show StableHlo.after hostOps0 (fun b => m (c, b)) (Proc.tc.devRef main_v24) (ix2 0 2) = _
  after_reads_at
  after_reads_at

/-- The fourth scalar is the weights' slope. -/
theorem scal_3 (c : Dev nD) :
    (V m c main_v24 : FVec Ideal S1x5 .f32) (ix2 0 3) = Ideal.div (wts m c (ix1 32) - wts m c (ix1 0)) (Ideal.ofBits .f32 0x42000000#32) := by
  show StableHlo.after hostOps0 (fun b => m (c, b)) (Proc.tc.devRef main_v24) (ix2 0 3) = _
  after_reads_at
  after_reads_at

/-- The result array after the run holds what the last point stores. -/
theorem final (c : Dev nD) : (dats m 0 c).arrAt 3 (cfgs 0).N
    = fun _ => (wts m c (ix1 0)
          * (∑ r : Fin 128, ∑ l : Fin 8192, ∑ t : Fin cfg0.N, term0 m c t (ix2 r l))
        + Ideal.div (wts m c (ix1 32) - wts m c (ix1 0)) (Ideal.ofBits .f32 0x42000000#32)
          * (∑ r : Fin 128, ∑ l : Fin 8192, ∑ t : Fin cfg0.N, term1 m c t (ix2 r l)))
        * Ideal.ofBits .f32 0x33000000#32 := by
  refine (dats m 0 c).arrAt_eq_of_covers 3 _ (by decide +kernel) fun t hf y => ?_
  blk_simp
  have h1 : t.val % 32 = 31 := (flush0_3 t).mp hf
  have hN : cfg0.N = 32 := N_0
  have hl : t.val + 1 = cfg0.N := by have h2 : t.val < 32 := lt_of_lt_of_eq t.isLt N_0; omega
  rw [after0_3, out_C m c t h1, pay6_eq, sblk_at, sblk_at, scal_2, scal_3]
  simp only [acc0_last m c t hl, acc1_last m c t hl]

/-- The whole run: the result is the combination of the two sums, the arguments are unchanged. -/
theorem run (g : Dev nD → PrngReg) : θ_run defs (onTc (τ := τ) (main (F := Ideal))) ⟨m, fun _ => 0, g⟩ fun r => ∀ c : Dev nD,
      r.2.mem ((c.tc : Thread nD τ).loc main_v26) = (fun _ => (wts m c (ix1 0)
          * (∑ r : Fin 128, ∑ l : Fin 8192, ∑ t : Fin cfg0.N, term0 m c t (ix2 r l))
        + Ideal.div (wts m c (ix1 32) - wts m c (ix1 0)) (Ideal.ofBits .f32 0x42000000#32)
          * (∑ r : Fin 128, ∑ l : Fin 8192, ∑ t : Fin cfg0.N, term1 m c t (ix2 r l)))
        * Ideal.ofBits .f32 0x33000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (θ_run_and (run_main m g) (unchanged m g)) fun r h c => ⟨?_, h.2 c⟩
  rw [(h.1 c).2 main_v26 (by decide)]
  show StableHlo.after hostOps1 (Pipeline.withArrays (cfgs 0).spec c (V0 m c) fun w => (dats m 0 c).arrAt w (cfgs 0).N) (Proc.devRef .tc main_v26) = _
  after_results
  have hw : Pipeline.withArrays (cfgs 0).spec c (V0 m c) (fun w => (dats m 0 c).arrAt w (cfgs 0).N) (Proc.tc.devRef main_v25)
      = (dats m 0 c).arrAt 3 (cfgs 0).N :=
    Pipeline.withArrays_arr (cfgs 0).spec (by decide) c (V0 m c) (fun w => (dats m 0 c).arrAt w (cfgs 0).N) 3
  rw [hw, final]
  rfl

end Cert.KernelIdeal.Value
-- ==== Proof.Ref.lean ====
/-
  What the reference computes, at an element: the count of bins, the weight read at it, and the sum.
-/
module

public import proofs.«01_k».proof.Proof.Gen.ReferenceIdeal.Run
public import Idealize.ShloMosaic.Lib.Pointwise
public import Idealize.ShloMosaic.Lib.IndicatorCount
public import Idealize.ShloMosaic.Lib.ValueIdxCore

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The number of bins that are not above each target, as the reference counts them. -/
def CNT (T : FVec Ideal S4096x8192 .f32) (B : FVec Ideal S32 .f32) : IVec S4096x8192 32 :=
  Host.reduce IntOp.addi (extui 32 (cmpf .ole (broadcastInDim S4096x8192x32 ![0, 1, 2] bcast_S1x1x32_S4096x8192x32_0_1_2 (broadcastInDim S1x1x32 ![2] bcast_S32_S1x1x32_2 B)) (broadcastInDim S4096x8192x32 ![0, 1, 2] bcast_S4096x8192x1_S4096x8192x32_0_1_2 (broadcastInDim S4096x8192x1 ![0, 1] bcast_S4096x8192_S4096x8192x1_0_1 T))) natLt_1_32) (constantI S_ 32 0#32) reducesTo_S4096x8192x32_S4096x8192_d2 h_S_

/-- That number clipped to the weights' positions. -/
def CLIP (T : FVec Ideal S4096x8192 .f32) (B : FVec Ideal S32 .f32) : IVec S4096x8192 32 :=
  minsi (broadcastInDim S4096x8192 ![] bcast_S_S4096x8192 (id (constantI S_ 32 32#32))) (maxsi (broadcastInDim S4096x8192 ![] bcast_S_S4096x8192 (id (constantI S_ 32 0#32))) (CNT T B))

/-- The position read among the weights. -/
def IDX (T : FVec Ideal S4096x8192 .f32) (B : FVec Ideal S32 .f32) : IVec S4096x8192 32 :=
  select (cmpi .slt (CLIP T B) (broadcastInDim S4096x8192 ![] bcast_S_S4096x8192 (constantI S_ 32 0#32))) (addi (CLIP T B) (broadcastInDim S4096x8192 ![] bcast_S_S4096x8192 (constantI S_ 32 33#32))) (CLIP T B)

/-- The weight of each target. -/
def GAT (T : FVec Ideal S4096x8192 .f32) (B : FVec Ideal S32 .f32) (W : FVec Ideal S33 .f32) : FVec Ideal S4096x8192 .f32 :=
  Host.gather gather_S33_S4096x8192x1_S4096x8192_n_0_n_n_0_2_1 W (broadcastInDim S4096x8192x1 ![0, 1] bcast_S4096x8192_S4096x8192x1_0_1 (IDX T B))

/-- The reference's result over its arguments. -/
def REF (P T : FVec Ideal S4096x8192 .f32) (B : FVec Ideal S32 .f32) (W : FVec Ideal S33 .f32) : FVec Ideal S_ .f32 :=
  Host.divf (Host.reduceAdd (mulf (mulf (subf P T) (subf P T)) (GAT T B W)) (constant S_ .f32 0x00000000#32) reducesTo_S4096x8192_S_d0_1 h_S_) (constant S_ .f32 0x4C000000#32)

/-- The count at an element: the number of bins that are at most the target there, as a word. -/
theorem CNT_at (T : FVec Ideal S4096x8192 .f32) (B : FVec Ideal S32 .f32) (r : Fin 4096) (l : Fin 8192) :
    CNT T B (ix2 r l) = BitVec.ofNat 32 (Finset.univ.filter fun k : Fin 32 => B (ix1 k) ≤ T (ix2 r l)).card := by
  pointwise [CNT]
  refine (IndicatorCount.fold_addi_setWidth_eq_card (w := 32) (fun k : Fin 32 => BitVec.ofBool (decide (B (ix1 k) ≤ T (ix2 r l)))) Finset.univ).trans ?_
  congr 2
  ext k
  by_cases h : B (ix1 k) ≤ T (ix2 r l) <;> simp [h]

/-- Neither the clip nor the wrap of negative positions changes a word of at most 32. -/
theorem wrap_clip (u : ℕ) (hu : u ≤ 32) :
    Scalar.select (IntOp.cmpi .slt (IntOp.minsi 32#32 (IntOp.maxsi 0#32 (BitVec.ofNat 32 u))) 0#32)
      (IntOp.addi (IntOp.minsi 32#32 (IntOp.maxsi 0#32 (BitVec.ofNat 32 u))) 33#32)
      (IntOp.minsi 32#32 (IntOp.maxsi 0#32 (BitVec.ofNat 32 u))) = BitVec.ofNat 32 u := by
  have h : ∀ v : Fin 33, Scalar.select (IntOp.cmpi .slt (IntOp.minsi 32#32 (IntOp.maxsi 0#32 (BitVec.ofNat 32 v.val))) 0#32)
      (IntOp.addi (IntOp.minsi 32#32 (IntOp.maxsi 0#32 (BitVec.ofNat 32 v.val))) 33#32)
      (IntOp.minsi 32#32 (IntOp.maxsi 0#32 (BitVec.ofNat 32 v.val))) = BitVec.ofNat 32 v.val := by decide
  exact h ⟨u, by omega⟩

/-- The position read is the count, since that is at most 32. -/
theorem IDX_at (T : FVec Ideal S4096x8192 .f32) (B : FVec Ideal S32 .f32) (r : Fin 4096) (l : Fin 8192) (u : ℕ) (hu : u ≤ 32)
    (h : CNT T B (ix2 r l) = BitVec.ofNat 32 u) :
    IDX T B (ix2 r l) = BitVec.ofNat 32 u := by
  pointwise [IDX, CLIP]
  rw [h]
  exact wrap_clip u hu

/-- The gather of 33 weights at an array of positions: the weight at the position in that place. -/
theorem gather_at (W : FVec Ideal S33 .f32) (X : IVec S4096x8192x1 32) (i : S4096x8192.Idx) (u : Fin 33)
    (h : X (ValueIdx.takeIdx i) = BitVec.ofNat 32 u) :
    Host.gather gather_S33_S4096x8192x1_S4096x8192_n_0_n_n_0_2_1 W X i = W (ix1 u) := by
  have g := ValueIdx.gather_take_apply (N := 33) (R := 4096) (C := 8192) (w := 32) (by decide)
    gather_S33_S4096x8192x1_S4096x8192_n_0_n_n_0_2_1.wf W X i
  refine Eq.trans ?_ (g.trans ?_)
  · rfl
  · have hv : ∀ v : Fin 33, min (BitVec.ofNat 32 v.val).toInt.toNat (33 - 1) = v.val := by decide
    refine congrArg W ?_
    funext a
    match a with
    | ⟨0, _⟩ =>
      refine Fin.ext ?_
      show min (X (ValueIdx.takeIdx i)).toInt.toNat (33 - 1) = u.val
      rw [h]
      exact hv u

/-- The weight of an element is the weight at the position read there. -/
theorem GAT_at (T : FVec Ideal S4096x8192 .f32) (B : FVec Ideal S32 .f32) (W : FVec Ideal S33 .f32) (r : Fin 4096) (l : Fin 8192)
    (u : Fin 33) (h : IDX T B (ix2 r l) = BitVec.ofNat 32 u) :
    GAT T B W (ix2 r l) = W (ix1 u) := by
  refine gather_at W _ (ix2 r l) u ?_
  rw [← h]
  refine congrArg (IDX T B) ?_
  funext a
  match a with
  | ⟨0, _⟩ => rfl
  | ⟨1, _⟩ => rfl

/-- The reference's result as a sum over the elements. -/
theorem REF_at (P T : FVec Ideal S4096x8192 .f32) (B : FVec Ideal S32 .f32) (W : FVec Ideal S33 .f32) (j : S_.Idx) :
    REF P T B W j = Ideal.div (∑ r : Fin 4096, ∑ l : Fin 8192,
      (P (ix2 r l) - T (ix2 r l)) * (P (ix2 r l) - T (ix2 r l)) * GAT T B W (ix2 r l)) (Ideal.ofBits .f32 0x4C000000#32) := by
  pointwise [REF]

end Cert.ReferenceIdeal.Value
-- ==== Proof.Bins.lean ====
/-
  The arithmetic of the claim: the constants, the floor that counts bins, and sums of non-negative extended reals.
-/
module

public import Idealize.ShloMosaic.Lib.IdealHost
public import Idealize.ShloMosaic.Lib.Pointwise.Sums
public import Mathlib.Algebra.Order.Floor.Ring

@[expose] public section

noncomputable section

open Idealize.ShloMosaic

namespace Cert.Bins

/-! ## The constants -/

/-- The pattern of the number of weights less one is the real 32. -/
theorem ofBits_span : Ideal.ofBits .f32 0x42000000#32 = ((32 : ℝ) : EReal) := by
  simp [Ideal.ofBits, Ideal.ieee, -EReal.coe_mul]; norm_num

/-- The pattern of the number of elements is the real 33554432. -/
theorem ofBits_count : Ideal.ofBits .f32 0x4C000000#32 = ((33554432 : ℝ) : EReal) := by
  simp [Ideal.ofBits, Ideal.ieee, -EReal.coe_mul]; norm_num

/-- The pattern of the mean's factor is the real 1 / 33554432. -/
theorem ofBits_mean : Ideal.ofBits .f32 0x33000000#32 = ((1 / 33554432 : ℝ) : EReal) := by
  simp [Ideal.ofBits, Ideal.ieee, -EReal.coe_mul]; norm_num

/-- The pattern of infinity is the top of the extended reals. -/
theorem ofBits_inf : Ideal.ofBits .f32 0x7F800000#32 = ⊤ := by
  simp [Ideal.ofBits, Ideal.ieee]

/-- To multiply by the mean's factor is to divide by the number of elements. -/
theorem mean_eq (x : EReal) : x * Ideal.ofBits .f32 0x33000000#32 = Ideal.div x (Ideal.ofBits .f32 0x4C000000#32) := by
  rw [ofBits_mean, ofBits_count, Ideal.div_coe (by norm_num)]

/-- An extended real whose absolute value is below infinity is a real. -/
theorem real_of_abs_lt {x : EReal} (h : max x (-x) < ⊤) : ∃ r : ℝ, x = r := by
  induction x with
  | bot => simp at h
  | coe r => exact ⟨r, rfl⟩
  | top => simp at h

/-- An extended real at least a real and below a real is a real. -/
theorem real_of_between {x : EReal} {a b : ℝ} (h0 : (a : EReal) ≤ x) (h1 : x < (b : EReal)) : ∃ r : ℝ, x = r ∧ a ≤ r ∧ r < b := by
  induction x with
  | bot => exact absurd h0 (not_le.mpr (EReal.bot_lt_coe _))
  | coe r => exact ⟨r, rfl, by exact_mod_cast h0, by exact_mod_cast h1⟩
  | top => exact absurd h1 (not_lt.mpr le_top)

/-! ## The floor is the count -/

/-- Of 32 evenly spaced bins, those at most `t` number one more than the floor of `t`'s distance from the first bin in
    spacings, when `t` lies within a spacing of the bins. -/
theorem card_bins (b s t : ℝ) (hs : 0 < s) (h0 : b - s ≤ t) (h1 : t < b + s * 31 + s) :
    (((Finset.univ.filter fun k : Fin 32 => b + s * (k.val : ℝ) ≤ t).card : ℤ)) = ⌊(t - b) / s⌋ + 1 := by
  have hlo : -1 ≤ ⌊(t - b) / s⌋ := by
    rw [Int.le_floor, le_div_iff₀ hs]; push_cast; linarith
  have hhi : ⌊(t - b) / s⌋ < 32 := by
    rw [Int.floor_lt, div_lt_iff₀ hs]; push_cast; linarith
  obtain ⟨n, hn⟩ : ∃ n : ℕ, (n : ℤ) = ⌊(t - b) / s⌋ + 1 := ⟨(⌊(t - b) / s⌋ + 1).toNat, by omega⟩
  have hset : (Finset.univ.filter fun k : Fin 32 => b + s * (k.val : ℝ) ≤ t) = Finset.univ.filter fun k : Fin 32 => k.val < n := by
    ext k
    simp only [Finset.mem_filter, Finset.mem_univ, true_and]
    have e : b + s * (k.val : ℝ) ≤ t ↔ ((k.val : ℤ)) ≤ ⌊(t - b) / s⌋ := by
      rw [Int.le_floor, le_div_iff₀ hs]; push_cast
      constructor <;> intro h <;> linarith
    rw [e]; omega
  rw [hset, Fin.card_filter_val_lt, ← hn]
  have : n ≤ 32 := by omega
  simp [this]

/-- The floor that the kernel takes is that count. -/
theorem floor_eq_card (b s t : ℝ) (hs : 0 < s) (h0 : b - s ≤ t) (h1 : t < b + s * 31 + s) :
    ⌊t * (1 / s) + (1 - b * (1 / s))⌋ = ((Finset.univ.filter fun k : Fin 32 => b + s * (k.val : ℝ) ≤ t).card : ℤ) := by
  rw [card_bins b s t hs h0 h1, ← Int.floor_add_one]
  congr 1
  field_simp
  ring

/-! ## Sums of non-negative extended reals -/

/-- A real factor goes into a sum of non-negative terms. -/
theorem mul_sum_nonneg {ι : Type} (S : Finset ι) (f : ι → EReal) (hf : ∀ i, 0 ≤ f i) (c : EReal) :
    c * ∑ i ∈ S, f i = ∑ i ∈ S, c * f i := by
  classical
  induction S using Finset.induction_on with
  | empty => simp
  | insert a S ha ih =>
    rw [Finset.sum_insert ha, Finset.sum_insert ha,
      EReal.left_distrib_of_nonneg (hf a) (Finset.sum_nonneg fun i _ => hf i), ih]

/-- Two weighted sums of non-negative terms are one sum of the weighted terms. -/
theorem sum_pair {ι κ : Type} [Fintype ι] [Fintype κ] (f g : ι → κ → EReal) (hf : ∀ i k, 0 ≤ f i k) (hg : ∀ i k, 0 ≤ g i k)
    (a b : EReal) :
    a * (∑ i, ∑ k, f i k) + b * (∑ i, ∑ k, g i k) = ∑ i, ∑ k, (a * f i k + b * g i k) := by
  rw [mul_sum_nonneg _ _ (fun i => Finset.sum_nonneg fun k _ => hf i k), mul_sum_nonneg _ _ (fun i => Finset.sum_nonneg fun k _ => hg i k),
    ← Finset.sum_add_distrib]
  refine Finset.sum_congr rfl fun i _ => ?_
  rw [mul_sum_nonneg _ _ (hf i), mul_sum_nonneg _ _ (hg i), ← Finset.sum_add_distrib]

/-- A square of an extended real is not negative. -/
theorem square_nonneg (x : EReal) : 0 ≤ x * x := by
  induction x with
  | bot => simp
  | coe r => rw [← EReal.coe_mul]; exact_mod_cast mul_self_nonneg r
  | top => simp

/-- A non-negative factor goes into a sum of two terms of no opposite signs. -/
theorem mul_add_same_sign (q a b : EReal) (h : 0 ≤ a ∧ 0 ≤ b ∨ a ≤ 0 ∧ b ≤ 0) : q * a + q * b = q * (a + b) := by
  rcases h with ⟨ha, hb⟩ | ⟨ha, hb⟩
  · exact (EReal.left_distrib_of_nonneg ha hb).symm
  · have ha' : 0 ≤ -a := EReal.neg_nonneg.mpr ha
    have hb' : 0 ≤ -b := EReal.neg_nonneg.mpr hb
    have e := EReal.left_distrib_of_nonneg (c := -q) ha' hb'
    have hab : -a + -b = -(a + b) := by
      rw [EReal.neg_add (Or.inr (ne_top_of_le_ne_top EReal.zero_ne_top hb)) (Or.inl (ne_top_of_le_ne_top EReal.zero_ne_top ha)), sub_eq_add_neg]
    rw [hab, neg_mul_neg, neg_mul_neg, neg_mul_neg] at e
    exact e.symm

/-- A square weighted by offset and slope apart is the square weighted by the line's value: where the squared error is a real,
    and where offset and slope have no opposite signs. -/
theorem weighted (x c d : EReal) (u : ℝ) (hu : 0 ≤ u) (h : (∃ r : ℝ, x = r) ∨ 0 ≤ c * d) :
    c * (x * x) + d * (x * x * (u : EReal)) = x * x * (c + d * (u : EReal)) := by
  rw [mul_left_comm d, mul_comm c]
  rcases h with ⟨r, rfl⟩ | h
  · exact (EReal.left_distrib_of_nonneg_of_ne_top (square_nonneg _) (by rw [← EReal.coe_mul]; exact EReal.coe_ne_top _) _ _).symm
  · refine mul_add_same_sign _ _ _ ?_
    have hu' : (0 : EReal) ≤ (u : EReal) := EReal.coe_nonneg.mpr hu
    rcases EReal.mul_nonneg_iff.mp h with ⟨hc, hd⟩ | ⟨hc, hd⟩
    · exact Or.inl ⟨hc, mul_nonneg hd hu'⟩
    · exact Or.inr ⟨hc, EReal.mul_nonpos_iff.mpr (Or.inr ⟨hd, hu'⟩)⟩

/-- The kernel's order of summing, over the rows of a block, the columns and the blocks, against rows and columns. -/
theorem sum_blocks (N : ℕ) (hN : N = 32) (f : Fin 4096 → Fin 8192 → EReal) :
    (∑ r : Fin 128, ∑ l : Fin 8192, ∑ t : Fin N,
      f ⟨t.val * 128 + r.val, by have := t.isLt; have := r.isLt; omega⟩ l) = ∑ R : Fin 4096, ∑ l : Fin 8192, f R l := by
  subst hN
  refine Eq.trans ?_ (Fin.sum_univ_tiles 32 128 rfl (fun R : Fin 4096 => ∑ l : Fin 8192, f R l)).symm
  refine Eq.trans (Finset.sum_congr rfl fun r _ => Finset.sum_comm) ?_
  exact Finset.sum_comm

end Cert.Bins
-- ==== Proof.Pre.lean ====
/-
  The precondition read in real numbers.
-/
module

public import proofs.«01_k».proof.Proof.Gen.Pre_in_the_bins
public import proofs.«01_k».proof.Proof.Bins
public import Idealize.ShloMosaic.Lib.Pointwise

@[expose] public section

set_option maxRecDepth 16384

noncomputable section

open Idealize.ShloMosaic Idealize.SL.Sem

namespace Cert.Pre_in_the_bins.Read

open Cert.Pre_in_the_bins Cert.Pre_in_the_bins.Gen

variable (P T : FVec Ideal S4096x8192 .f32) (B : FVec Ideal S32 .f32) (W : FVec Ideal S33 .f32)

/-- A conjunction of one-bit words that is one has both its parts one. -/
theorem andi_one {a b : BitVec 1} (h : IntOp.andi a b = 1#1) : a = 1#1 ∧ b = 1#1 := by
  revert a b; decide

/-- A disjunction of one-bit words that is one has one of its parts one. -/
theorem ori_one {a b : BitVec 1} (h : IntOp.ori a b = 1#1) : a = 1#1 ∨ b = 1#1 := by
  revert a b; decide

/-- The word of a decided proposition is one only where the proposition holds. -/
theorem of_ofBool {p : Prop} [Decidable p] (h : BitVec.ofBool (decide p) = 1#1) : p := by
  by_contra hp
  rw [decide_eq_false hp] at h
  exact absurd h (by decide)

/-- The word of a small natural number, converted, is that number. -/
theorem sitofp_ofNat (j : ℕ) (h : j < 33) : (FloatOps.sitofp FTy.f32 (BitVec.ofNat 32 j) : Ideal .f32) = ((j : ℝ) : EReal) := by
  have e : ∀ v : Fin 33, (BitVec.ofNat 32 v.val).toInt = (v.val : ℤ) := by decide
  show (((BitVec.ofNat 32 j).toInt : ℝ) : EReal) = _
  rw [e ⟨j, h⟩]
  simp

/-- What the precondition says of a bin: it is finite, the first two bins increase, and it lies on their line. -/
theorem bins_at (j : Fin 32) : (fn (F := Ideal) P T B W).1 (ix1 j) = 1#1 →
    max (B (ix1 j)) (-B (ix1 j)) < ⊤ ∧ 0 < B (ix1 1) - B (ix1 0)
      ∧ B (ix1 j) = B (ix1 0) + (B (ix1 1) - B (ix1 0)) * ((j.val : ℝ) : EReal) := by
  pointwise [fn, fn_part1, fn_part2]
  intro h
  obtain ⟨h, h3⟩ := andi_one h
  obtain ⟨h1, h2⟩ := andi_one h
  have h1 := of_ofBool h1
  have h3 := of_ofBool h3
  rw [Bins.ofBits_inf] at h1
  rw [sitofp_ofNat j.val (by omega)] at h3
  exact ⟨h1, of_ofBool h2, h3⟩

/-- What the precondition says of a weight: it lies on the line through the first and the last. -/
theorem wts_at (j : Fin 33) : (fn (F := Ideal) P T B W).2.1 (ix1 j) = 1#1 →
    W (ix1 j) = W (ix1 0) + Ideal.div (W (ix1 32) - W (ix1 0)) (Ideal.ofBits .f32 0x42000000#32) * ((j.val : ℝ) : EReal) := by
  pointwise [fn, fn_part1, fn_part2]
  intro h
  have h := of_ofBool h
  rw [sitofp_ofNat j.val j.isLt] at h
  exact h

/-- What the precondition says of a target: it lies within a spacing of the bins. -/
theorem tgt_at (r : Fin 4096) (l : Fin 8192) : (fn (F := Ideal) P T B W).2.2.1 (ix2 r l) = 1#1 →
    B (ix1 0) - (B (ix1 1) - B (ix1 0)) ≤ T (ix2 r l) ∧ T (ix2 r l) < B (ix1 31) + (B (ix1 1) - B (ix1 0)) := by
  pointwise [fn, fn_part1, fn_part2]
  intro h
  obtain ⟨h1, h2⟩ := andi_one h
  exact ⟨of_ofBool h1, of_ofBool h2⟩

/-- What the precondition says of a prediction: it is finite, or offset and slope have no opposite signs. -/
theorem prd_at (r : Fin 4096) (l : Fin 8192) : (fn (F := Ideal) P T B W).2.2.2 (ix2 r l) = 1#1 →
    max (P (ix2 r l)) (-P (ix2 r l)) < ⊤
      ∨ 0 ≤ W (ix1 0) * Ideal.div (W (ix1 32) - W (ix1 0)) (Ideal.ofBits .f32 0x42000000#32) := by
  pointwise [fn, fn_part1, fn_part2]
  intro h
  rcases ori_one h with h | h
  · have h := of_ofBool h
    rw [Bins.ofBits_inf] at h
    exact Or.inl h
  · exact Or.inr (of_ofBool h)

/-- The precondition in real numbers: the bins are `b + s * j` with `s` positive, every target is a real within a spacing of
    the bins, and every prediction is a real unless the weights' offset and slope have no opposite signs. -/
theorem reals (hB : (fn (F := Ideal) P T B W).1 = fun _ => 1#1)
    (hT : (fn (F := Ideal) P T B W).2.2.1 = fun _ => 1#1) (hP : (fn (F := Ideal) P T B W).2.2.2 = fun _ => 1#1) :
    ∃ b s : ℝ, 0 < s ∧ (∀ j : Fin 32, B (ix1 j) = ((b + s * (j.val : ℝ) : ℝ) : EReal))
      ∧ (∀ (r : Fin 4096) (l : Fin 8192), ∃ t : ℝ, T (ix2 r l) = t ∧ b - s ≤ t ∧ t < b + s * 31 + s)
      ∧ (∀ (r : Fin 4096) (l : Fin 8192), (∃ p : ℝ, P (ix2 r l) = p)
          ∨ 0 ≤ W (ix1 0) * Ideal.div (W (ix1 32) - W (ix1 0)) (Ideal.ofBits .f32 0x42000000#32)) := by
  have hb := fun j => bins_at P T B W j (congrFun hB (ix1 j))
  obtain ⟨b, eb⟩ := Bins.real_of_abs_lt (hb 0).1
  obtain ⟨b', eb'⟩ := Bins.real_of_abs_lt (hb 1).1
  have es : B (ix1 1) - B (ix1 0) = ((b' - b : ℝ) : EReal) := by rw [eb, eb', EReal.coe_sub]
  have hB' : ∀ j : Fin 32, B (ix1 j) = ((b + (b' - b) * (j.val : ℝ) : ℝ) : EReal) := fun j => by
    rw [(hb j).2.2, es, eb, ← EReal.coe_mul, ← EReal.coe_add]
  refine ⟨b, b' - b, ?_, hB', fun r l => ?_, fun r l => ?_⟩
  · have := (hb 0).2.1
    rw [es] at this
    exact_mod_cast this
  · obtain ⟨h0, h1⟩ := tgt_at P T B W r l (congrFun hT (ix2 r l))
    rw [es, eb, ← EReal.coe_sub] at h0
    rw [es, hB' 31, ← EReal.coe_add] at h1
    have e : ((31 : Fin 32).val : ℝ) = 31 := by norm_num
    rw [e] at h1
    exact Bins.real_of_between h0 h1
  · exact (prd_at P T B W r l (congrFun hP (ix2 r l))).imp Bins.real_of_abs_lt id

end Cert.Pre_in_the_bins.Read
-- ==== Proof.Equal.lean ====
/-
  The kernel and the reference have one value where the precondition holds.
-/
module

public import proofs.«01_k».proof.Proof.Acc
public import proofs.«01_k».proof.Proof.Ref
public import proofs.«01_k».proof.Proof.Pre

@[expose] public section

set_option maxRecDepth 16384

noncomputable section

open Idealize.ShloMosaic Idealize.ShloMosaic.TcCoe Idealize.SL.Sem

namespace Cert.Equal

open Cert.KernelIdeal Cert.KernelIdeal.Gen Cert.KernelIdeal.Value

/-- The square of an element's error. -/
def sq (P T : FVec Ideal S4096x8192 .f32) (R : Fin 4096) (l : Fin 8192) : EReal :=
  (P (ix2 R l) - T (ix2 R l)) * (P (ix2 R l) - T (ix2 R l))

/-- The number of bins at most a target, among bins on a line. -/
def cnt (b s : ℝ) (t : ℝ) : ℕ := (Finset.univ.filter fun k : Fin 32 => b + s * (k.val : ℝ) ≤ t).card

/-- That number is at most 32. -/
theorem cnt_le (b s t : ℝ) : cnt b s t ≤ 32 := by
  unfold cnt
  exact (Finset.card_le_univ _).trans (by simp)

/-- The reference's weight of a target is the line's value at the number of bins at most the target. -/
theorem gat_eq (T : FVec Ideal S4096x8192 .f32) (B : FVec Ideal S32 .f32) (W : FVec Ideal S33 .f32) (b s t : ℝ) (k d : EReal)
    (hB : ∀ j : Fin 32, B (ix1 j) = ((b + s * (j.val : ℝ) : ℝ) : EReal))
    (hW : ∀ j : Fin 33, W (ix1 j) = k + d * ((j.val : ℝ) : EReal))
    (R : Fin 4096) (l : Fin 8192) (ht : T (ix2 R l) = (t : EReal)) :
    Cert.ReferenceIdeal.Value.GAT T B W (ix2 R l) = k + d * ((cnt b s t : ℝ) : EReal) := by
  have hc : Cert.ReferenceIdeal.Value.CNT T B (ix2 R l) = BitVec.ofNat 32 (cnt b s t) := by
    rw [Cert.ReferenceIdeal.Value.CNT_at, ht]
    unfold cnt
    congr 2
    ext k
    simp only [Finset.mem_filter, Finset.mem_univ, true_and, hB, EReal.coe_le_coe_iff]
  have hi := Cert.ReferenceIdeal.Value.IDX_at T B R l (cnt b s t) (cnt_le b s t) hc
  rw [Cert.ReferenceIdeal.Value.GAT_at T B W R l ⟨cnt b s t, Nat.lt_succ_of_le (cnt_le b s t)⟩ hi, hW]

/-- The kernel's floor, at bins on a line and a target within a spacing of them, is the number of bins at most the target. -/
theorem floor_eq (B : FVec Ideal S32 .f32) (b s t : ℝ) (hs : 0 < s)
    (hB : ∀ j : Fin 32, B (ix1 j) = ((b + s * (j.val : ℝ) : ℝ) : EReal)) (h0 : b - s ≤ t) (h1 : t < b + s * 31 + s) :
    Ideal.liftRound Int.floor ((t : EReal) * Ideal.div 1 (B (ix1 1) - B (ix1 0)) + (1 - B (ix1 0) * Ideal.div 1 (B (ix1 1) - B (ix1 0))))
      = ((cnt b s t : ℝ) : EReal) := by
  have e0 : B (ix1 0) = ((b : ℝ) : EReal) := by rw [hB 0]; congr 1; simp
  have e1 : B (ix1 1) = ((b + s : ℝ) : EReal) := by rw [hB 1]; congr 1; simp
  have ed : Ideal.div 1 (B (ix1 1) - B (ix1 0)) = ((1 / s : ℝ) : EReal) := by
    rw [e0, e1, ← EReal.coe_sub, add_sub_cancel_left, Ideal.div_coe hs.ne', one_mul]
  have one : (1 : EReal) = ((1 : ℝ) : EReal) := rfl
  rw [ed, e0, one]
  simp only [← EReal.coe_mul, ← EReal.coe_sub, ← EReal.coe_add]
  rw [Ideal.liftRound_coe, Bins.floor_eq_card b s t hs h0 h1]
  unfold cnt
  simp

/-- The kernel's value is the reference's, where the precondition holds. -/
theorem value (m : (ℓ : Loc nD τ sig) → Buf (Elt Ideal) ℓ) (c : Dev nD) (P T : FVec Ideal S4096x8192 .f32)
    (hP : P = m ((c.tc : Thread nD τ).loc main_arg0)) (hT : T = m ((c.tc : Thread nD τ).loc main_arg1))
    (h0 : (Cert.Pre_in_the_bins.fn (F := Ideal) P T (bins m c) (wts m c)).1 = fun _ => 1#1)
    (h1 : (Cert.Pre_in_the_bins.fn (F := Ideal) P T (bins m c) (wts m c)).2.1 = fun _ => 1#1)
    (h2 : (Cert.Pre_in_the_bins.fn (F := Ideal) P T (bins m c) (wts m c)).2.2.1 = fun _ => 1#1)
    (h3 : (Cert.Pre_in_the_bins.fn (F := Ideal) P T (bins m c) (wts m c)).2.2.2 = fun _ => 1#1) :
    Cert.ReferenceIdeal.Value.REF P T (bins m c) (wts m c)
      = fun _ => (wts m c (ix1 0)
          * (∑ r : Fin 128, ∑ l : Fin 8192, ∑ t : Fin cfg0.N, term0 m c t (ix2 r l))
        + Ideal.div (wts m c (ix1 32) - wts m c (ix1 0)) (Ideal.ofBits .f32 0x42000000#32)
          * (∑ r : Fin 128, ∑ l : Fin 8192, ∑ t : Fin cfg0.N, term1 m c t (ix2 r l)))
        * Ideal.ofBits .f32 0x33000000#32 := by
  obtain ⟨b, s, hs, hB, ht, hp⟩ := Cert.Pre_in_the_bins.Read.reals P T (bins m c) (wts m c) h0 h2 h3
  have hW := fun j => Cert.Pre_in_the_bins.Read.wts_at P T (bins m c) (wts m c) j (congrFun h1 (ix1 j))
  choose tr htr hlo hhi using ht
  have hb : ∀ t : Fin cfg0.N, ∀ r : Fin 128, t.val * 128 + r.val < 4096 := fun t r => by
    have := lt_of_lt_of_eq t.isLt N_0; have := r.isLt; omega
  have e0 : ∀ (t : Fin cfg0.N) (r : Fin 128) (l : Fin 8192), term0 m c t (ix2 r l) = sq P T ⟨t.val * 128 + r.val, hb t r⟩ l := fun t r l => by
    unfold term0 sq
    rw [pblk_at m c t r l (hb t r), tblk_at m c t r l (hb t r), hP, hT]
  have e1 : ∀ (t : Fin cfg0.N) (r : Fin 128) (l : Fin 8192), term1 m c t (ix2 r l)
      = sq P T ⟨t.val * 128 + r.val, hb t r⟩ l * ((cnt b s (tr ⟨t.val * 128 + r.val, hb t r⟩ l) : ℝ) : EReal) := fun t r l => by
    unfold term1 sq
    rw [sblk_at, sblk_at, scal_0, scal_1, pblk_at m c t r l (hb t r), tblk_at m c t r l (hb t r), ← hP, ← hT,
      ← floor_eq (bins m c) b s _ hs hB (hlo _ _) (hhi _ _), ← htr]
  have s0 : (∑ r : Fin 128, ∑ l : Fin 8192, ∑ t : Fin cfg0.N, term0 m c t (ix2 r l)) = ∑ R : Fin 4096, ∑ l : Fin 8192, sq P T R l := by
    simp only [e0]
    exact Bins.sum_blocks cfg0.N N_0 (sq P T)
  have s1 : (∑ r : Fin 128, ∑ l : Fin 8192, ∑ t : Fin cfg0.N, term1 m c t (ix2 r l))
      = ∑ R : Fin 4096, ∑ l : Fin 8192, sq P T R l * ((cnt b s (tr R l) : ℝ) : EReal) := by
    simp only [e1]
    exact Bins.sum_blocks cfg0.N N_0 (fun R l => sq P T R l * ((cnt b s (tr R l) : ℝ) : EReal))
  have hq : ∀ (R : Fin 4096) (l : Fin 8192), 0 ≤ sq P T R l := fun R l => Bins.square_nonneg _
  have hn : ∀ (R : Fin 4096) (l : Fin 8192), (0 : EReal) ≤ ((cnt b s (tr R l) : ℝ) : EReal) := fun R l =>
    EReal.coe_nonneg.mpr (Nat.cast_nonneg _)
  funext j
  rw [Cert.ReferenceIdeal.Value.REF_at, s0, s1, Bins.mean_eq,
    Bins.sum_pair (sq P T) (fun R l => sq P T R l * ((cnt b s (tr R l) : ℝ) : EReal)) hq (fun R l => mul_nonneg (hq R l) (hn R l))]
  refine congrArg (Ideal.div · _) (Finset.sum_congr rfl fun R _ => Finset.sum_congr rfl fun l _ => ?_)
  rw [gat_eq T (bins m c) (wts m c) b s (tr R l) _ _ hB hW R l (htr R l)]
  refine (Bins.weighted (P (ix2 R l) - T (ix2 R l)) _ _ (cnt b s (tr R l) : ℝ) (Nat.cast_nonneg _) ?_).symm
  rcases hp R l with ⟨p, hp⟩ | h
  · exact Or.inl ⟨p - tr R l, by rw [hp, htr R l, EReal.coe_sub]⟩
  · exact Or.inr h

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_the_bins
public import proofs.«01_k».proof.Proof.Equal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run leaves its arguments as they were and every counter at zero: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  θ_run_mono (Cert.ReferenceIdeal.Value.run (F := Ideal) m g) fun r h =>
    ⟨fun c => (h c).2, sem_eq_zero_of_no_sems (by decide) r.2⟩

/-- The kernel's run and the reference's end with the same value, from any memories with the same arguments where the precondition
    holds, and both leave their arguments as they were. -/
theorem algebraic : Cert.algebraic_KernelIdeal_ReferenceIdeal_pre_in_the_bins := by
  intro m g m' g' hpre hagree
  refine ⟨_, Cert.KernelIdeal.Value.run m g, θ_run_mono (Cert.ReferenceIdeal.Value.run (F := Ideal) m' g') fun r h c => ⟨?_, (h c).2⟩⟩
  rw [(h c).1, (hagree c).1, (hagree c).2.1, (hagree c).2.2.1, (hagree c).2.2.2]
  exact Cert.Equal.value m c _ _ rfl rfl (hpre c).1 (hpre c).2.1 (hpre c).2.2.1 (hpre c).2.2.2

/-- Every claim of this certificate. -/
theorem claim : Cert.Claim :=
  ⟨Cert.Kernel.Gen.facts, Cert.KernelIdeal.Gen.facts, Cert.ReferenceIdeal.Gen.facts, Cert.Pre_in_the_bins.Gen.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    algebraic⟩

end Cert.Proof

end
